-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x255x76x76 : Shape := ⟨4, ![16, 255, 76, 76]⟩
abbrev S2 : Shape := ⟨1, ![2]⟩
abbrev S3x2 : Shape := ⟨2, ![3, 2]⟩
abbrev S85 : Shape := ⟨1, ![85]⟩
abbrev S85x2 : Shape := ⟨2, ![85, 2]⟩
abbrev S5776 : Shape := ⟨1, ![5776]⟩
abbrev S16x3x85x76x76 : Shape := ⟨5, ![16, 3, 85, 76, 76]⟩
abbrev S1 : Shape := ⟨1, ![1]⟩
abbrev S_ : Shape := ⟨0, ![]⟩
abbrev S1x85 : Shape := ⟨2, ![1, 85]⟩
abbrev S85x1x2 : Shape := ⟨3, ![85, 1, 2]⟩
abbrev S1x3x2 : Shape := ⟨3, ![1, 3, 2]⟩
abbrev S85x3x2 : Shape := ⟨3, ![85, 3, 2]⟩
abbrev S85x3 : Shape := ⟨2, ![85, 3]⟩
abbrev S3x85 : Shape := ⟨2, ![3, 85]⟩
abbrev S3x1x85 : Shape := ⟨3, ![3, 1, 85]⟩
abbrev S5776x1 : Shape := ⟨2, ![5776, 1]⟩
abbrev S16x17328x85 : Shape := ⟨3, ![16, 17328, 85]⟩
abbrev S1x1x85x76x76 : Shape := ⟨5, ![1, 1, 85, 76, 76]⟩
abbrev S1x1x85 : Shape := ⟨3, ![1, 1, 85]⟩
abbrev S1x17328x85 : Shape := ⟨3, ![1, 17328, 85]⟩
abbrev S85x76x76 : Shape := ⟨3, ![85, 76, 76]⟩
abbrev S85x5776 : Shape := ⟨2, ![85, 5776]⟩
abbrev S5776x85 : Shape := ⟨2, ![5776, 85]⟩
abbrev S1x5776x85 : Shape := ⟨3, ![1, 5776, 85]⟩

abbrev nBuf : Space → Nat
  | .hbm => 41
  | .vmem => 11
  | .smem => 0
  | _ => 0

abbrev bufTy : (tb : Table) → Fin (tcTables nBuf tb) → BufTy
  | .hbm, ⟨0, _⟩ => ⟨S16x255x76x76, .f32⟩
  | .hbm, ⟨1, _⟩ => ⟨S2, .i32⟩
  | .hbm, ⟨2, _⟩ => ⟨S3x2, .f32⟩
  | .hbm, ⟨3, _⟩ => ⟨S85, .i1⟩
  | .hbm, ⟨4, _⟩ => ⟨S85, .f32⟩
  | .hbm, ⟨5, _⟩ => ⟨S85x2, .f32⟩
  | .hbm, ⟨6, _⟩ => ⟨S85, .f32⟩
  | .hbm, ⟨7, _⟩ => ⟨S85, .f32⟩
  | .hbm, ⟨8, _⟩ => ⟨S5776, .f32⟩
  | .hbm, ⟨9, _⟩ => ⟨S5776, .f32⟩
  | .hbm, ⟨10, _⟩ => ⟨S16x3x85x76x76, .f32⟩
  | .hbm, ⟨11, _⟩ => ⟨S1, .i32⟩
  | .hbm, ⟨12, _⟩ => ⟨S_, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S3x2, .f32⟩
  | .hbm, ⟨17, _⟩ => ⟨S3x2, .f32⟩
  | .hbm, ⟨18, _⟩ => ⟨S85, .f32⟩
  | .hbm, ⟨19, _⟩ => ⟨S85, .f32⟩
  | .hbm, ⟨20, _⟩ => ⟨S1x85, .f32⟩
  | .hbm, ⟨21, _⟩ => ⟨S85x1x2, .f32⟩
  | .hbm, ⟨22, _⟩ => ⟨S1x3x2, .f32⟩
  | .hbm, ⟨23, _⟩ => ⟨S85x3x2, .f32⟩
  | .hbm, ⟨24, _⟩ => ⟨S85x3x2, .f32⟩
  | .hbm, ⟨25, _⟩ => ⟨S85x3x2, .f32⟩
  | .hbm, ⟨26, _⟩ => ⟨S_, .f32⟩
  | .hbm, ⟨27, _⟩ => ⟨S85x3, .f32⟩
  | .hbm, ⟨28, _⟩ => ⟨S85x3, .f32⟩
  | .hbm, ⟨29, _⟩ => ⟨S85x3, .f32⟩
  | .hbm, ⟨30, _⟩ => ⟨S3x85, .f32⟩
  | .hbm, ⟨31, _⟩ => ⟨S3x1x85, .f32⟩
  | .hbm, ⟨32, _⟩ => ⟨S1x85, .f32⟩
  | .hbm, ⟨33, _⟩ => ⟨S1x85, .f32⟩
  | .hbm, ⟨34, _⟩ => ⟨S5776, .f32⟩
  | .hbm, ⟨35, _⟩ => ⟨S5776, .f32⟩
  | .hbm, ⟨36, _⟩ => ⟨S5776x1, .f32⟩
  | .hbm, ⟨37, _⟩ => ⟨S5776, .f32⟩
  | .hbm, ⟨38, _⟩ => ⟨S5776, .f32⟩
  | .hbm, ⟨39, _⟩ => ⟨S5776x1, .f32⟩
  | .hbm, ⟨40, _⟩ => ⟨S16x17328x85, .f32⟩
  | .local _ .vmem, ⟨0, _⟩ => ⟨S1x1x85x76x76, .f32⟩
  | .local _ .vmem, ⟨1, _⟩ => ⟨S1x1x85x76x76, .f32⟩
  | .local _ .vmem, ⟨2, _⟩ => ⟨S1x85, .f32⟩
  | .local _ .vmem, ⟨3, _⟩ => ⟨S1x1x85, .f32⟩
  | .local _ .vmem, ⟨4, _⟩ => ⟨S1x1x85, .f32⟩
  | .local _ .vmem, ⟨5, _⟩ => ⟨S1x85, .f32⟩
  | .local _ .vmem, ⟨6, _⟩ => ⟨S1x85, .f32⟩
  | .local _ .vmem, ⟨7, _⟩ => ⟨S5776x1, .f32⟩
  | .local _ .vmem, ⟨8, _⟩ => ⟨S5776x1, .f32⟩
  | .local _ .vmem, ⟨9, _⟩ => ⟨S1x17328x85, .f32⟩
  | .local _ .vmem, ⟨10, _⟩ => ⟨S1x17328x85, .f32⟩
  | _, _ => ⟨S16x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_cst_5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_6 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_7 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 3], ![false, false]⟩

def k0_off1 (i : grid0.Coords) : Fin 3 → Nat :=
  let c0_19 : Index := 0#32
  let arg1 : BitVec 32 := BitVec.ofNat 32 (i 1).val
  let v40 : Index := Scalar.indexCast arg1
  let c0_20 : Index := 0#32
  ![0, v40.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x85x76x76 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x85 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x85 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x85 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x85 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S5776x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S5776x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x17328x85 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16x255x76x76 : Shape := ⟨4, ![16, 255, 76, 76]⟩
abbrev S2 : Shape := ⟨1, ![2]⟩
abbrev S9x2 : Shape := ⟨2, ![9, 2]⟩
abbrev S3 : Shape := ⟨1, ![3]⟩
abbrev S1 : Shape := ⟨1, ![1]⟩
abbrev S_ : Shape := ⟨0, ![]⟩
abbrev S3x1 : Shape := ⟨2, ![3, 1]⟩
abbrev S3x2 : Shape := ⟨2, ![3, 2]⟩
abbrev S16x3x85x76x76 : Shape := ⟨5, ![16, 3, 85, 76, 76]⟩
abbrev S16x3x76x76x85 : Shape := ⟨5, ![16, 3, 76, 76, 85]⟩
abbrev S16x3x76x76x2 : Shape := ⟨5, ![16, 3, 76, 76, 2]⟩
abbrev S16x3x76x76x1 : Shape := ⟨5, ![16, 3, 76, 76, 1]⟩
abbrev S16x3x76x76 : Shape := ⟨4, ![16, 3, 76, 76]⟩
abbrev S16x3x76x76x80 : Shape := ⟨5, ![16, 3, 76, 76, 80]⟩
abbrev S76 : Shape := ⟨1, ![76]⟩
abbrev S1x76 : Shape := ⟨2, ![1, 76]⟩
abbrev S1x1x1x76 : Shape := ⟨4, ![1, 1, 1, 76]⟩
abbrev S76x1x1x76 : Shape := ⟨4, ![76, 1, 1, 76]⟩
abbrev S76x76 : Shape := ⟨2, ![76, 76]⟩
abbrev S76x76x1 : Shape := ⟨3, ![76, 76, 1]⟩
abbrev S76x76x2 : Shape := ⟨3, ![76, 76, 2]⟩
abbrev S1x3x1x1x2 : Shape := ⟨5, ![1, 3, 1, 1, 2]⟩
abbrev S1x1x1x3x1x1x1x1x1x2 : Shape := ⟨10, ![1, 1, 1, 3, 1, 1, 1, 1, 1, 2]⟩
abbrev S1x1x1x3x76x1x76x1x1x2 : Shape := ⟨10, ![1, 1, 1, 3, 76, 1, 76, 1, 1, 2]⟩
abbrev S1x3x76x76x2 : Shape := ⟨5, ![1, 3, 76, 76, 2]⟩
abbrev S1x1x76x76x2 : Shape := ⟨5, ![1, 1, 76, 76, 2]⟩
abbrev S16x3x76x76x4 : Shape := ⟨5, ![16, 3, 76, 76, 4]⟩
abbrev S16x76x76x3x85 : Shape := ⟨5, ![16, 76, 76, 3, 85]⟩
abbrev S16x17328x85 : Shape := ⟨3, ![16, 17328, 85]⟩

abbrev nBuf : Space → Nat
  | .hbm => 83
  | .vmem => 0
  | .smem => 0
  | _ => 0

abbrev bufTy : (tb : Table) → Fin (tcTables nBuf tb) → BufTy
  | .hbm, ⟨0, _⟩ => ⟨S16x255x76x76, .f32⟩
  | .hbm, ⟨1, _⟩ => ⟨S2, .i32⟩
  | .hbm, ⟨2, _⟩ => ⟨S9x2, .f32⟩
  | .hbm, ⟨3, _⟩ => ⟨S3, .i32⟩
  | .hbm, ⟨4, _⟩ => ⟨S1, .i32⟩
  | .hbm, ⟨5, _⟩ => ⟨S_, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S9x2, .f32⟩
  | .hbm, ⟨10, _⟩ => ⟨S9x2, .f32⟩
  | .hbm, ⟨11, _⟩ => ⟨S_, .i32⟩
  | .hbm, ⟨12, _⟩ => ⟨S3, .i32⟩
  | .hbm, ⟨13, _⟩ => ⟨S3, .i1⟩
  | .hbm, ⟨14, _⟩ => ⟨S_, .i32⟩
  | .hbm, ⟨15, _⟩ => ⟨S3, .i32⟩
  | .hbm, ⟨16, _⟩ => ⟨S3, .i32⟩
  | .hbm, ⟨17, _⟩ => ⟨S3, .i32⟩
  | .hbm, ⟨18, _⟩ => ⟨S3x1, .i32⟩
  | .hbm, ⟨19, _⟩ => ⟨S3x2, .f32⟩
  | .hbm, ⟨20, _⟩ => ⟨S16x3x85x76x76, .f32⟩
  | .hbm, ⟨21, _⟩ => ⟨S16x3x76x76x85, .f32⟩
  | .hbm, ⟨22, _⟩ => ⟨S16x3x76x76x2, .f32⟩
  | .hbm, ⟨23, _⟩ => ⟨S16x3x76x76x2, .f32⟩
  | .hbm, ⟨24, _⟩ => ⟨S16x3x76x76x2, .f32⟩
  | .hbm, ⟨25, _⟩ => ⟨S_, .f32⟩
  | .hbm, ⟨26, _⟩ => ⟨S16x3x76x76x2, .f32⟩
  | .hbm, ⟨27, _⟩ => ⟨S16x3x76x76x2, .f32⟩
  | .hbm, ⟨28, _⟩ => ⟨S_, .f32⟩
  | .hbm, ⟨29, _⟩ => ⟨S16x3x76x76x2, .f32⟩
  | .hbm, ⟨30, _⟩ => ⟨S16x3x76x76x2, .f32⟩
  | .hbm, ⟨31, _⟩ => ⟨S16x3x76x76x2, .f32⟩
  | .hbm, ⟨32, _⟩ => ⟨S16x3x76x76x1, .f32⟩
  | .hbm, ⟨33, _⟩ => ⟨S16x3x76x76, .f32⟩
  | .hbm, ⟨34, _⟩ => ⟨S16x3x76x76, .f32⟩
  | .hbm, ⟨35, _⟩ => ⟨S16x3x76x76, .f32⟩
  | .hbm, ⟨36, _⟩ => ⟨S_, .f32⟩
  | .hbm, ⟨37, _⟩ => ⟨S16x3x76x76, .f32⟩
  | .hbm, ⟨38, _⟩ => ⟨S16x3x76x76, .f32⟩
  | .hbm, ⟨39, _⟩ => ⟨S_, .f32⟩
  | .hbm, ⟨40, _⟩ => ⟨S16x3x76x76, .f32⟩
  | .hbm, ⟨41, _⟩ => ⟨S16x3x76x76, .f32⟩
  | .hbm, ⟨42, _⟩ => ⟨S16x3x76x76x80, .f32⟩
  | .hbm, ⟨43, _⟩ => ⟨S16x3x76x76x80, .f32⟩
  | .hbm, ⟨44, _⟩ => ⟨S16x3x76x76x80, .f32⟩
  | .hbm, ⟨45, _⟩ => ⟨S_, .f32⟩
  | .hbm, ⟨46, _⟩ => ⟨S16x3x76x76x80, .f32⟩
  | .hbm, ⟨47, _⟩ => ⟨S16x3x76x76x80, .f32⟩
  | .hbm, ⟨48, _⟩ => ⟨S_, .f32⟩
  | .hbm, ⟨49, _⟩ => ⟨S16x3x76x76x80, .f32⟩
  | .hbm, ⟨50, _⟩ => ⟨S16x3x76x76x80, .f32⟩
  | .hbm, ⟨51, _⟩ => ⟨S76, .i32⟩
  | .hbm, ⟨52, _⟩ => ⟨S1x76, .i32⟩
  | .hbm, ⟨53, _⟩ => ⟨S1x1x1x76, .i32⟩
  | .hbm, ⟨54, _⟩ => ⟨S76x1x1x76, .i32⟩
  | .hbm, ⟨55, _⟩ => ⟨S76x76, .i32⟩
  | .hbm, ⟨56, _⟩ => ⟨S76x76x1, .i32⟩
  | .hbm, ⟨57, _⟩ => ⟨S76, .i32⟩
  | .hbm, ⟨58, _⟩ => ⟨S1x76, .i32⟩
  | .hbm, ⟨59, _⟩ => ⟨S1x1x1x76, .i32⟩
  | .hbm, ⟨60, _⟩ => ⟨S76x1x1x76, .i32⟩
  | .hbm, ⟨61, _⟩ => ⟨S76x76, .i32⟩
  | .hbm, ⟨62, _⟩ => ⟨S76x76, .i32⟩
  | .hbm, ⟨63, _⟩ => ⟨S76x76x1, .i32⟩
  | .hbm, ⟨64, _⟩ => ⟨S76x76x2, .i32⟩
  | .hbm, ⟨65, _⟩ => ⟨S76x76x2, .f32⟩
  | .hbm, ⟨66, _⟩ => ⟨S1x3x1x1x2, .f32⟩
  | .hbm, ⟨67, _⟩ => ⟨S1x1x1x3x1x1x1x1x1x2, .f32⟩
  | .hbm, ⟨68, _⟩ => ⟨S1x1x1x3x76x1x76x1x1x2, .f32⟩
  | .hbm, ⟨69, _⟩ => ⟨S1x3x76x76x2, .f32⟩
  | .hbm, ⟨70, _⟩ => ⟨S1x1x76x76x2, .f32⟩
  | .hbm, ⟨71, _⟩ => ⟨S16x3x76x76x2, .f32⟩
  | .hbm, ⟨72, _⟩ => ⟨S16x3x76x76x2, .f32⟩
  | .hbm, ⟨73, _⟩ => ⟨S16x3x76x76x2, .f32⟩
  | .hbm, ⟨74, _⟩ => ⟨S16x3x76x76x2, .f32⟩
  | .hbm, ⟨75, _⟩ => ⟨S16x3x76x76x2, .f32⟩
  | .hbm, ⟨76, _⟩ => ⟨S16x3x76x76x4, .f32⟩
  | .hbm, ⟨77, _⟩ => ⟨S16x3x76x76x4, .f32⟩
  | .hbm, ⟨78, _⟩ => ⟨S16x3x76x76x4, .f32⟩
  | .hbm, ⟨79, _⟩ => ⟨S16x3x76x76x1, .f32⟩
  | .hbm, ⟨80, _⟩ => ⟨S16x3x76x76x85, .f32⟩
  | .hbm, ⟨81, _⟩ => ⟨S16x76x76x3x85, .f32⟩
  | .hbm, ⟨82, _⟩ => ⟨S16x17328x85, .f32⟩
  | _, _ => ⟨S16x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩

abbrev nD : Nat := 1
abbrev τ : Topo := Topo.v7x

variable {F : FTy → Type} [FloatOps F]
-- ==== Proof.Body.lean ====
/- The kernel body's run, over any values. On whole staging buffers the body reads its seven inputs and then overwrites,
   by one store of stride three, the rows of the output block whose number is congruent to the anchor's number modulo
   three; every other row is left as it was found. The strided load before the store reads rows the body never uses. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rows one grid point writes: from the anchor's row on, every third row of the output block. -/
abbrev rows (i : grid0.Coords) : Rect S1x17328x85 :=
  ⟨(⟨k0_off1 i, S1x5776x85.size, ![1, 3, 1], (k0_off1_inb i)⟩ : LoadRect S1x17328x85), spos_1_3_1⟩

/-- What one grid point stores, from the seven input blocks: the decoded 5776 rows of one anchor. -/
def stored (x0 : Vec F S1x1x85x76x76 .f32) (x1 : Vec F S1x85 .f32) (x2 : Vec F S1x1x85 .f32) (x3 : Vec F S1x85 .f32)
    (x4 : Vec F S1x85 .f32) (x5 : Vec F S5776x1 .f32) (x6 : Vec F S5776x1 .f32) : Vec F S1x5776x85 .f32 :=
  k0_pay1 (k0_pay2 x0 x1 x2 x5 x3) (k0_pay3 x4) (k0_pay4 x6)

private theorem zeros2 : (![0, 0] : Fin 2 → ℕ) = fun _ => 0 := by decide
private theorem zeros3 : (![0, 0, 0] : Fin 3 → ℕ) = fun _ => 0 := by decide
private theorem zeros5 : (![0, 0, 0, 0, 0] : Fin 5 → ℕ) = fun _ => 0 := by decide

/-- A load of a whole buffer that holds `X` reads `X`. -/
theorem load_whole {s : Shape} {e : EltTy} {m : Memref sig .tc .vmem s e} (h : m.IsWhole) (X : Vec F s e) {off : Fin s.rank → ℕ}
    (hz : off = fun _ => 0) (inb : ∀ a, off a + s.size a ≤ s.size a) :
    View.readAt (Elt F) m.view (Rect.unit off s.size inb).toLoadRect (h.unread X) = X := by
  rw [View.readAt_eq_ld, h.read_unread, View.ld_unit_zero hz]

set_option maxHeartbeats 1000000 in
/-- The body's triple on whole staging buffers: the inputs come back unchanged, and the output's buffer holds what it
    held, overwritten on `rows i` by `stored`. -/
theorem body_run (c : Dev nD) (i : grid0.Coords) (arg2 : Memref sig .tc .vmem S1x1x85x76x76 .f32) (harg2 : arg2.IsWhole) (arg3 : Memref sig .tc .vmem S1x85 .f32) (harg3 : arg3.IsWhole) (arg4 : Memref sig .tc .vmem S1x1x85 .f32) (harg4 : arg4.IsWhole) (arg5 : Memref sig .tc .vmem S1x85 .f32) (harg5 : arg5.IsWhole) (arg6 : Memref sig .tc .vmem S1x85 .f32) (harg6 : arg6.IsWhole) (arg7 : Memref sig .tc .vmem S5776x1 .f32) (harg7 : arg7.IsWhole) (arg8 : Memref sig .tc .vmem S5776x1 .f32) (harg8 : arg8.IsWhole) (arg9 : Memref sig .tc .vmem S1x17328x85 .f32) (harg9 : arg9.IsWhole)
    (x0 : Vec F S1x1x85x76x76 .f32) (x1 : Vec F S1x85 .f32) (x2 : Vec F S1x1x85 .f32) (x3 : Vec F S1x85 .f32) (x4 : Vec F S1x85 .f32) (x5 : Vec F S5776x1 .f32) (x6 : Vec F S5776x1 .f32) (xo : Vec F S1x17328x85 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (arg9.view.read (Elt F) (arg9.view.writes (Elt F) (harg9.unread xo) [⟨rows i, stored x0 x1 x2 x3 x4 x5 x6⟩]))) -∗ K ⟨⟩))
      ⊢ wp frame (wpE (defs₀ (F := F)) Variants.none c none) E (cc0__decode_body i arg2 harg2 arg3 harg3 arg4 harg4 arg5 harg5 arg6 harg6 arg7 harg7 arg8 harg8 arg9 harg9) K := by
  simp only [cc0__decode_body_eq_skeleton]; unfold cc0__decode_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  unfold body_run.sl.r body_run.sl.r_1 body_run.sl.r_2
  unfold stored
  rw [load_whole harg2 x0 zeros5, load_whole harg3 x1 zeros2, load_whole harg4 x2 zeros3, load_whole harg7 x5 zeros2,
    load_whole harg5 x3 zeros2, load_whole harg6 x4 zeros2, load_whole harg8 x6 zeros2]

end Cert.Decode

end
-- ==== Proof.Run.lean ====
/- The kernel's run, over any values. The output block of one batch entry is written in three visits, one per anchor, each
   overwriting every third row; only after the third visit is the block written back, and by then every row is one that
   some visit stored. The proof data hold the seven inputs' buffers to their blocks exactly, and the output's buffer to a
   predicate: the rows of the anchors already visited hold what those visits stored. -/
module

public import proofs.«01_k».proof.Proof.Body
public import Idealize.ShloMosaic.Lib.Pipeline.DatRel
public import Idealize.ShloMosaic.Lib.PointwiseCore

@[expose] public section

set_option maxRecDepth 16384

noncomputable section

namespace Cert.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the visit of grid point `t` stores. -/
def visit (c : Dev nD) (t : Fin cfg0.N) : Vec F S1x5776x85 .f32 :=
  stored (iblk m c 0 t) (iblk m c 1 t) (iblk m c 2 t) (iblk m c 3 t) (iblk m c 4 t) (iblk m c 5 t) (iblk m c 6 t)

/-- The visit of anchor `j` to the batch entry that grid point `t` works on. -/
def sibling (t : Fin cfg0.N) (j : ℕ) (hj : j < 3) : Fin cfg0.N :=
  ⟨3 * (t.val / 3) + j, by
    have h : t.val < 48 := lt_of_lt_of_eq t.isLt (show cfg0.N = 48 from N_0)
    exact lt_of_lt_of_eq (show 3 * (t.val / 3) + j < 48 by omega) (show cfg0.N = 48 from N_0).symm⟩

/-- The output block of the batch entry of point `t` once all three visits are over: row `n` is row `n / 3` of what the visit of
    anchor `n % 3` stored. -/
def target (c : Dev nD) (t : Fin cfg0.N) : Vec F S1x17328x85 .f32 := fun y =>
  visit m c (sibling t ((y 1).val % 3) (Nat.mod_lt _ (by omega)))
    (ix3 (0 : Fin 1) (⟨(y 1).val / 3, by have h : (y 1).val < 17328 := (y 1).isLt; omega⟩ : Fin 5776) (y 2 : Fin 85))

/-- A block that holds the target on the rows of the anchors up to point `t`'s. -/
def Filled (c : Dev nD) (t : Fin cfg0.N) (X : Vec F S1x17328x85 .f32) : Prop :=
  ∀ y : S1x17328x85.Idx, (y 1).val % 3 ≤ t.val % 3 → X y = target m c t y

/-- After the third visit the whole block is the target. -/
theorem Filled.eq {c : Dev nD} {t : Fin cfg0.N} {X : Vec F S1x17328x85 .f32} (h : Filled m c t X) (ht : t.val % 3 = 2) :
    X = target m c t := funext fun y => h y (by omega)

/-- The target is the same at all points of one batch entry. -/
theorem target_pred (c : Dev nD) (t u : Fin cfg0.N) (h : t.val / 3 = u.val / 3) : target m c t = target m c u := by
  have e : ∀ j hj, sibling t j hj = sibling u j hj := fun j hj => Fin.ext (by simp only [sibling, h])
  funext y; simp only [target, e]

/-- Anchor number of grid point `t`. -/
theorem anchor_val (t : Fin cfg0.N) : (grid0.coords t 1).val = t.val % 3 := by
  have e : (grid0.coords t 1).val = t.val / 1 % 3 := Pipeline.Grid.coords_val t 1 (by decide) rfl
  rw [e, Nat.div_one]

/-- One visit keeps the rows the earlier visits to the block filled and fills its own. -/
theorem filled_store (c : Dev nD) (t : Fin cfg0.N) (arg9 : Memref sig .tc .vmem S1x17328x85 .f32) (f : arg9.view.ty.Contents (Elt F))
    (hprev : t.val % 3 ≠ 0 → ∃ u : Fin cfg0.N, u.val + 1 = t.val ∧ Filled m c u (arg9.view.read (Elt F) f)) :
    Filled m c t (arg9.view.read (Elt F) (arg9.view.writes (Elt F) f [⟨rows (grid0.coords t), visit m c t⟩])) := by
  intro y hy
  have ha := anchor_val t
  have hy1 : (y 1).val < 17328 := (y 1).isLt
  have hoff : k0_off1 (grid0.coords t) = ![0, t.val % 3, 0] := by rw [k0_off1_eq, ha]
  by_cases hmine : (y 1).val % 3 = t.val % 3
  · refine (View.read_writes_cons_hit_of_coords arg9.view f (rows (grid0.coords t)) (visit m c t) []
      (ix3 (0 : Fin 1) (⟨(y 1).val / 3, by omega⟩ : Fin 5776) (y 2 : Fin 85)) y ?_).trans ?_
    · intro a
      show (y a).val = k0_off1 (grid0.coords t) a + (![1, 3, 1] : Fin 3 → ℕ) a * _
      rw [hoff]
      match a with
      | ⟨0, _⟩ => have h0 : (y 0).val < 1 := (y 0).isLt; show (y 0).val = 0 + 1 * 0; omega
      | ⟨1, _⟩ => show (y 1).val = t.val % 3 + 3 * ((y 1).val / 3); omega
      | ⟨2, _⟩ => show (y 2).val = 0 + 1 * (y 2).val; omega
    · have e : sibling t ((y 1).val % 3) (Nat.mod_lt _ (by omega)) = t := Fin.ext (by show 3 * (t.val / 3) + (y 1).val % 3 = t.val; omega)
      rw [target, e]
  · refine (View.read_writes_cons_miss arg9.view f ⟨rows (grid0.coords t), visit m c t⟩ [] y ?_).trans ?_
    · intro hmem
      obtain ⟨j, hj, hj'⟩ := (LoadRect.mem_set _).mp hmem 1
      have hj'' : (y 1).val = k0_off1 (grid0.coords t) 1 + 3 * j := hj'
      rw [hoff] at hj''
      have : (y 1).val = t.val % 3 + 3 * j := hj''
      omega
    · obtain ⟨u, hu, hf⟩ := hprev (by omega)
      rw [View.writes_nil, hf y (by omega), target_pred m c u t (by omega)]

/-! ## The proof data -/

/-- The exact part of the proof data: the arrays as the region finds them and each input's buffer at its block. The output
    window's entry is not used: the predicate `held` takes its place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => target m c t
  Φ _ := Pipeline.ΦA spec0 c
  q _ := fullShare
  owed _ := 0

/-- The window held to a predicate: the output. -/
def marked : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true

/-- What the output's buffer is held to after point `t`: `Filled`. -/
def held (c : Dev nD) (w : Fin cfg0.W) (t : Fin cfg0.N) (X : (cfg0.win w).block.Idx → Elt F (cfg0.win w).elt) : Prop :=
  match w with
  | ⟨0, _⟩ => True
  | ⟨1, _⟩ => True
  | ⟨2, _⟩ => True
  | ⟨3, _⟩ => True
  | ⟨4, _⟩ => True
  | ⟨5, _⟩ => True
  | ⟨6, _⟩ => True
  | ⟨7, _⟩ => Filled m c t X

/-- The proof data. -/
def rdat (c : Dev nD) : RDat τ (Elt F) Unit ℕ (UR sig nD τ) ℕ cfg0 c := (dats m 0 c).toRRel marked (held m c)

/-- The arrays the windows start from are those the host part left. -/
theorem A_eq (c : Dev nD) (w : Fin cfg0.W) : (dats m 0 c).A w = V m c (Pipeline.arrRef spec0 w) := by
  dsimp only [dats]

/-- The body leaves the inputs' buffers as they were: each holds its block. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

/-- The body finds its block in each input's buffer. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body may have left in the output's buffer is `Filled`. -/
theorem leaves_filled (c : Dev nD) (t : Fin cfg0.N) (X : Vec F S1x17328x85 .f32) (h : (rdat m c).Leaves 7 t X) : Filled m c t X :=
  (dats m 0 c).toRRel_leaves (w := 7) rfl h

/-- At a point that is not the first of its batch entry the output's buffer is handed over as the previous point left it. -/
theorem finds_filled (c : Dev nD) (t : Fin cfg0.N) (h0 : t.val % 3 ≠ 0) (X : Vec F S1x17328x85 .f32) (h : (rdat m c).Finds 7 t X) :
    ∃ u : Fin cfg0.N, u.val + 1 = t.val ∧ Filled m c u X := by
  have ht : t.val ≠ 0 := fun e => h0 (by rw [e])
  refine ⟨⟨t.val - 1, Nat.lt_of_le_of_lt (Nat.sub_le _ _) t.isLt⟩, by show t.val - 1 + 1 = t.val; omega, ?_⟩
  rcases ((rdat m c).finds_of_pos (w := 7) rfl ht X).mp h with hfl | hL
  · have := (flush0_7 _).mp hfl
    dsimp only at this
    omega
  · exact leaves_filled m c _ X hL

/-! ## The body's obligation -/

/-- Each window's current staging buffer at point `t`, and that it is a whole buffer. -/
abbrev buf0 (t : Fin cfg0.N) : Memref sig .tc .vmem S1x1x85x76x76 .f32 := win0_0.stage (cfg0.slots t 0)
abbrev buf1 (t : Fin cfg0.N) : Memref sig .tc .vmem S1x85 .f32 := win0_1.stage (cfg0.slots t 1)
abbrev buf2 (t : Fin cfg0.N) : Memref sig .tc .vmem S1x1x85 .f32 := win0_2.stage (cfg0.slots t 2)
abbrev buf3 (t : Fin cfg0.N) : Memref sig .tc .vmem S1x85 .f32 := win0_3.stage (cfg0.slots t 3)
abbrev buf4 (t : Fin cfg0.N) : Memref sig .tc .vmem S1x85 .f32 := win0_4.stage (cfg0.slots t 4)
abbrev buf5 (t : Fin cfg0.N) : Memref sig .tc .vmem S5776x1 .f32 := win0_5.stage (cfg0.slots t 5)
abbrev buf6 (t : Fin cfg0.N) : Memref sig .tc .vmem S5776x1 .f32 := win0_6.stage (cfg0.slots t 6)
abbrev buf7 (t : Fin cfg0.N) : Memref sig .tc .vmem S1x17328x85 .f32 := win0_7.stage (cfg0.slots t 7)
abbrev whole7 (t : Fin cfg0.N) : (buf7 t).IsWhole := hstage0_7 ((cfg0.slots t 7).cast nbuf0_7)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ Y, ⌜(rdat m c).Finds 7 t Y⌝ ∗ owns (c : Thread nD τ) (buf7 t) fullShare Y))

/-- What the body hands back at point `t`. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ (∃ X, ⌜held m c 7 t X⌝ ∗ owns (c : Thread nD τ) (buf7 t) fullShare X))

set_option maxHeartbeats 1600000 in
/-- The body at any grid point: from the inputs' blocks and the rows already filled to the same with this point's rows filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (body_run c (grid0.coords t) _ _ _ _ _ _ _ _ _ _ _ _ _ _ _ (whole7 t) (iblk m c 0 t) (iblk m c 1 t) (iblk m c 2 t) (iblk m c 3 t) (iblk m c 4 t) (iblk m c 5 t) (iblk m c 6 t) Y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr
  swap; · iexact H7
  ipureintro
  exact filled_store m c t (buf7 t) ((whole7 t).unread Y) fun h0 => by
    rw [(whole7 t).read_unread]; exact finds_filled m c t h0 Y hY

/-- The body table's row at point `t` is the body there. -/
theorem defs_row (t : Fin cfg0.N) :
    defs₀ (F := F) .tc cfg0.body (cfg0.bodyArgs t (cfg0.slots t)) = bodyAt0 t := by
  unfold defs₀; rw [Defs.onTc_tc]

/-- The body meets its obligation at every grid point. -/
theorem body_obligation (c : Dev nD) :
    Pipeline.BodyObligationRel (dats (F := F) m 0 c) (defs₀ (F := F)) Variants.none () Set.univ marked (held m c) := fun t => by
  rw [bigSep_W0, bigSep_W0, defs_row]
  exact triple_restated (sound_body m c t) rfl .rfl fun _ => .rfl

/-! ## The run -/

set_option backward.isDefEq.respectTransparency.types false in
/-- Every weakly fair run of the program terminates; at the end every array of the pipeline holds what the proof data allow,
    every other unscoped buffer what the region found there, and every semaphore counter is zero. -/
theorem run_main : θ_run defs (onTc (τ := τ) (main (F := F))) (s₀ m ρ)
    (fun r => RDat.FramePost cfg0 (rdat m) (V m) r ∧ r.2.sem = fun _ => 0) :=
  Pipeline.RDat.θ_run_frame cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (Q' := _)

/-- The arguments end unchanged and every semaphore counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main m ρ)

end Cert.Decode

end
-- ==== Proof.Same.lean ====
/- The program over the bit patterns and the program over the extended reals are the same text, so over the bit patterns the two
   are equal, and a run of the one is a run of the other. -/
module

public import proofs.«01_k».proof.Proof.Run
public import proofs.«01_k».proof.Proof.Gen.Kernel.Frame
public import Idealize.ShloMosaic.PureOps.BitExact

@[expose] public section

set_option maxRecDepth 16384

noncomputable section

namespace Cert.Decode

open Idealize.ShloMosaic Idealize.SL.Sem

variable [Cert.Kernel.Facts] [Cert.KernelIdeal.Facts]

/-- The two programs call the same kernel. -/
theorem calls_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- The two programs have the same functions. -/
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) calls_eq

set_option maxHeartbeats 4000000 in
/-- The two programs have the same host part. -/
theorem main_eq : Cert.Kernel.main (F := Bits) = Cert.KernelIdeal.main (F := Bits) := rfl

end Cert.Decode

end
-- ==== Proof.Entry.lean ====
/- One element of what a visit stores, as a formula of the elements of the seven blocks it reads. -/
module

public import proofs.«01_k».proof.Proof.Body
public import Idealize.ShloMosaic.Lib.Pointwise

@[expose] public section

set_option maxRecDepth 16384

noncomputable section

namespace Cert.Decode

open Cert.KernelIdeal Cert.KernelIdeal.Gen Idealize.ShloMosaic

/-- The logistic function as the kernel computes it: half of one plus the hyperbolic tangent of half the argument. -/
def sigm (y : EReal) : EReal := Ideal.tanh (y * Ideal.ofBits .f32 0x3F000000#32) * Ideal.ofBits .f32 0x3F000000#32 + Ideal.ofBits .f32 0x3F000000#32

/-- Element `(hw, ch)` of the stored block: the logistic function and the exponential of the prediction, each times its multiplier,
    plus the two coordinates, each times its indicator. -/
theorem stored_apply (x0 : Vec Ideal S1x1x85x76x76 .f32) (x1 : Vec Ideal S1x85 .f32) (x2 : Vec Ideal S1x1x85 .f32)
    (x3 x4 : Vec Ideal S1x85 .f32) (x5 x6 : Vec Ideal S5776x1 .f32) (r : Fin 5776) (ch : Fin 85) :
    stored x0 x1 x2 x3 x4 x5 x6 (ix3 (0 : Fin 1) r ch)
      = sigm (x0 (ix5 0 0 ch ⟨r.val / 76, by omega⟩ ⟨r.val % 76, by omega⟩)) * x1 (ix2 0 ch)
        + Ideal.exp (x0 (ix5 0 0 ch ⟨r.val / 76, by omega⟩ ⟨r.val % 76, by omega⟩)) * x2 (ix3 0 0 ch)
        + x5 (ix2 r 0) * x3 (ix2 0 ch) + x6 (ix2 r 0) * x4 (ix2 0 ch) := by
  pointwise [stored, k0_pay1, k0_pay2, k0_pay3, k0_pay4, sigm]

end Cert.Decode

end
-- ==== Proof.Tables.lean ====
/- The two tables of grid coordinates: word `i` of the first is the 32-bit float of `i % 76`, of the second that of `i / 76`, for the
   5776 positions of a 76 × 76 grid in row-major order. -/
module

public import proofs.«01_k».proof.Proof.Gen.KernelIdeal
public import Idealize.ShloMosaic.PureOps.Ideal.Laws

@[expose] public section

set_option maxRecDepth 16384

noncomputable section

namespace Cert.Decode

open Cert.KernelIdeal Idealize.ShloMosaic

/-- The 32-bit float of a natural below `2 ^ 24`: the exponent is the position of its leading bit, the fraction the bits below
    that one. -/
def floatWord (n : ℕ) : BitVec 32 :=
  if n = 0 then 0#32 else BitVec.ofNat 32 ((127 + n.log2) * 2 ^ 23 + (n * 2 ^ (23 - n.log2) - 2 ^ 23))

/-- Entry `i` of the first table is the float of the column `i % 76`. -/
theorem lit6_eq : ∀ i : Fin 5776, lit6 i = floatWord (i.val % 76) := by decide +kernel

/-- Entry `i` of the second table is the float of the row `i / 76`. -/
theorem lit7_eq : ∀ i : Fin 5776, lit7 i = floatWord (i.val / 76) := by decide +kernel

/-- The three fields of the float of a positive natural below 77: sign, exponent, fraction. -/
theorem floatWord_fields : ∀ n : Fin 77, n.val ≠ 0 →
    (floatWord n.val).extractLsb' 31 1 = 0#1
    ∧ ((floatWord n.val).extractLsb' 23 8).toNat = 127 + n.val.log2
    ∧ 2 ^ 23 + ((floatWord n.val).extractLsb' 0 23).toNat = n.val * 2 ^ (23 - n.val.log2)
    ∧ n.val.log2 ≤ 6 := by decide +kernel

/-- The float of a natural below 77 denotes it. -/
theorem ofBits_floatWord (n : ℕ) (h : n < 77) : Ideal.ofBits .f32 (floatWord n) = ((n : ℝ) : EReal) := by
  by_cases h0 : n = 0
  · subst h0
    rw [show floatWord 0 = 0x00000000#32 from rfl, Ideal.ofBits_zero_f32]; norm_cast
  · obtain ⟨hs, he, hf, hl⟩ := floatWord_fields ⟨n, h⟩ h0
    dsimp only at hs he hf hl
    show Ideal.ieee 8 23 (floatWord n) = _
    unfold Ideal.ieee
    simp only [Nat.reduceAdd, hs, he, hf]
    rw [if_neg (by omega), if_neg (by omega)]
    congr 1
    have e : (((127 + n.log2 : ℕ) : ℤ) - (2 ^ (8 - 1) - 1) - (23 : ℕ)) = -((23 - n.log2 : ℕ) : ℤ) := by omega
    rw [e, zpow_neg, zpow_natCast]
    push_cast
    simp

end Cert.Decode

end
-- ==== Proof.Host.lean ====
/- The arrays the kernel is called with, read at an element: the predictions are the first argument reshaped; the others are the
   multipliers, the indicators and the scaled coordinates that the program computes before the call from the image size. -/
module

public import proofs.«01_k».proof.Proof.Tables
public import proofs.«01_k».proof.Proof.Gen.KernelIdeal.Frame
public import Idealize.ShloMosaic.Lib.StableHlo.Run
public import Idealize.ShloMosaic.Lib.Pointwise

@[expose] public section

set_option maxRecDepth 16384

noncomputable section

namespace Cert.Decode

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The side of a grid cell in pixels: the image's second extent over 76. -/
def cell (img : (⟨S2, .i32⟩ : BufTy).Contents (Elt Ideal)) : EReal :=
  Ideal.div (((img (ix1 1) : BitVec 32).toInt : ℝ) : EReal) (Ideal.ofBits .f32 0x42980000#32)

/-- The predictions. -/
theorem V_pred (c : Dev nD) (b : Fin 16) (a : Fin 3) (ch : Fin 85) (h w : Fin 76) :
    (V m c main_v0 : (⟨S16x3x85x76x76, .f32⟩ : BufTy).Contents (Elt Ideal)) (ix5 b a ch h w)
      = (m ((c : Thread nD τ).loc main_arg0) : (⟨S16x255x76x76, .f32⟩ : BufTy).Contents (Elt Ideal)) (ix4 b ⟨a.val * 85 + ch.val, by omega⟩ h w) := by
  simp only [V, List.flatten_cons, List.flatten_nil, List.append_nil, hostOps0, hostOps0_1, hostOps0_2, List.cons_append, List.nil_append]
  after_results_simp
  pointwise

/-- The length of anchor `a` along axis `k` (0 across, 1 down) in grid cells. -/
def anchorCells (img : (⟨S2, .i32⟩ : BufTy).Contents (Elt Ideal)) (a : Fin 3) (k : Fin 2) : EReal :=
  Ideal.div (Ideal.ofBits .f32 (lit0 ⟨a.val * 2 + k.val, by omega⟩)) (cell img)

/-- The table that chooses the cell side: the first two columns. -/
theorem lit1_eq : ∀ ch : Fin 85, lit1 ch = BitVec.ofBool (decide (ch.val < 2)) := by decide
/-- The multipliers of the columns past the first two: zero for the two lengths, one for the scores. -/
theorem lit2_eq : ∀ ch : Fin 85, lit2 ch = if ch.val < 4 then 0#32 else 0x3F800000#32 := by decide
/-- The table that places the anchors: column 2 takes the first length, column 3 the second. -/
theorem lit3_eq : ∀ (ch : Fin 85) (k : Fin 2), lit3 ⟨ch.val * 2 + k.val, by omega⟩ = if ch.val = k.val + 2 then 0x3F800000#32 else 0#32 := by decide
/-- The indicator of column 0. -/
theorem lit4_eq : ∀ ch : Fin 85, lit4 ch = if ch.val = 0 then 0x3F800000#32 else 0#32 := by decide
/-- The indicator of column 1. -/
theorem lit5_eq : ∀ ch : Fin 85, lit5 ch = if ch.val = 1 then 0x3F800000#32 else 0#32 := by decide

/-- The word of one or of zero, read as a number. -/
theorem ofBits_ite (p : Prop) [Decidable p] :
    Ideal.ofBits .f32 (if p then 0x3F800000#32 else 0#32) = if p then (1 : EReal) else 0 := by
  split
  · exact Ideal.ofBits_one_f32
  · exact Ideal.ofBits_zero_f32

/-- The position of an index of a vector of 85 elements is its coordinate. -/
theorem pos85 (ch : Fin 85) : S85.rowMajor (ix1 ch) = ch := Fin.ext (Shape.rowMajor_val_one _)
/-- The position of an index of a vector of 5776 elements is its coordinate. -/
theorem pos5776 (r : Fin 5776) : S5776.rowMajor (ix1 r) = r := Fin.ext (Shape.rowMajor_val_one _)
/-- The position of an index of the anchor placing table. -/
theorem pos85x2 (ch : Fin 85) (k : Fin 2) : S85x2.rowMajor (ix2 ch k) = ⟨ch.val * 2 + k.val, by show _ < 170; omega⟩ :=
  Fin.ext (Shape.rowMajor_val_two _)
/-- The position of an index of the anchor table. -/
theorem pos3x2 (a : Fin 3) (k : Fin 2) : S3x2.rowMajor (ix2 a k) = ⟨a.val * 2 + k.val, by show _ < 6; omega⟩ :=
  Fin.ext (Shape.rowMajor_val_two _)

/-- The anchor placing table at an index. -/
theorem lit3_at (ch : Fin 85) (k : Fin 2) : lit3 (S85x2.rowMajor (ix2 ch k)) = if ch.val = k.val + 2 then 0x3F800000#32 else 0#32 :=
  (congrArg lit3 (pos85x2 ch k)).trans (lit3_eq ch k)
/-- The anchor table at an index. -/
theorem lit0_at (a : Fin 3) (k : Fin 2) : lit0 (S3x2.rowMajor (ix2 a k)) = lit0 ⟨a.val * 2 + k.val, by omega⟩ :=
  congrArg lit0 (pos3x2 a k)

/-- The multiplier of the logistic function: the cell side in the first two columns, zero in the next two, one in the others. -/
theorem V_smul (c : Dev nD) (ch : Fin 85) :
    (V m c main_v8 : (⟨S1x85, .f32⟩ : BufTy).Contents (Elt Ideal)) (ix2 0 ch)
      = if ch.val < 2 then cell (m ((c : Thread nD τ).loc main_arg1)) else if ch.val < 4 then (0 : EReal) else (1 : EReal) := by
  simp only [V, List.flatten_cons, List.flatten_nil, List.append_nil, hostOps0, hostOps0_1, hostOps0_2, List.cons_append, List.nil_append]
  after_results_simp
  simp -implicitDefEqProofs only [TRef.toBuf, TRef.ofBuf, cast_cast, cast_eq]
  pointwise
  rw [pos85, lit1_eq, lit2_eq]
  by_cases h2 : ch.val < 2
  · rw [if_pos h2, decide_eq_true h2]; rfl
  · rw [if_neg h2, decide_eq_false h2]
    show Ideal.ofBits .f32 _ = _
    split
    · exact Ideal.ofBits_zero_f32
    · exact Ideal.ofBits_one_f32

/-- The multiplier of the exponential: the anchor's lengths in pixels in columns 2 and 3, zero elsewhere. -/
theorem V_emul (c : Dev nD) (a : Fin 3) (ch : Fin 85) :
    (V m c main_v18 : (⟨S3x1x85, .f32⟩ : BufTy).Contents (Elt Ideal)) (ix3 a 0 ch)
      = if ch.val = 2 then anchorCells (m ((c : Thread nD τ).loc main_arg1)) a 0 * cell (m ((c : Thread nD τ).loc main_arg1))
        else if ch.val = 3 then anchorCells (m ((c : Thread nD τ).loc main_arg1)) a 1 * cell (m ((c : Thread nD τ).loc main_arg1))
        else (0 : EReal) := by
  simp only [V, List.flatten_cons, List.flatten_nil, List.append_nil, hostOps0, hostOps0_1, hostOps0_2, List.cons_append, List.nil_append]
  after_results_simp
  pointwise
  rw [Fin.sum_univ_two, lit3_at, lit3_at, lit0_at, lit0_at, ofBits_ite, ofBits_ite]
  show ((if ch.val = 2 then (1 : EReal) else 0) * anchorCells (m ((c : Thread nD τ).loc main_arg1)) a 0
    + (if ch.val = 3 then (1 : EReal) else 0) * anchorCells (m ((c : Thread nD τ).loc main_arg1)) a 1) * cell (m ((c : Thread nD τ).loc main_arg1)) = _
  by_cases h2 : ch.val = 2
  · rw [if_pos h2, if_pos h2, if_neg (by omega), one_mul, zero_mul, add_zero]
  · rw [if_neg h2, if_neg h2, zero_mul, zero_add]
    by_cases h3 : ch.val = 3
    · rw [if_pos h3, if_pos h3, one_mul]
    · rw [if_neg h3, if_neg h3, zero_mul, zero_mul]

/-- The indicator of the column that takes the horizontal coordinate. -/
theorem V_ix (c : Dev nD) (ch : Fin 85) :
    (V m c main_v19 : (⟨S1x85, .f32⟩ : BufTy).Contents (Elt Ideal)) (ix2 0 ch) = if ch.val = 0 then (1 : EReal) else (0 : EReal) := by
  simp only [V, List.flatten_cons, List.flatten_nil, List.append_nil, hostOps0, hostOps0_1, hostOps0_2, List.cons_append, List.nil_append]
  after_results_simp
  pointwise
  rw [pos85, lit4_eq, ofBits_ite]

/-- The indicator of the column that takes the vertical coordinate. -/
theorem V_iy (c : Dev nD) (ch : Fin 85) :
    (V m c main_v20 : (⟨S1x85, .f32⟩ : BufTy).Contents (Elt Ideal)) (ix2 0 ch) = if ch.val = 1 then (1 : EReal) else (0 : EReal) := by
  simp only [V, List.flatten_cons, List.flatten_nil, List.append_nil, hostOps0, hostOps0_1, hostOps0_2, List.cons_append, List.nil_append]
  after_results_simp
  pointwise
  rw [pos85, lit5_eq, ofBits_ite]

/-- The horizontal coordinate of grid cell `r` in pixels. -/
theorem V_mx (c : Dev nD) (r : Fin 5776) :
    (V m c main_v23 : (⟨S5776x1, .f32⟩ : BufTy).Contents (Elt Ideal)) (ix2 r 0)
      = (((r.val % 76 : ℕ) : ℝ) : EReal) * cell (m ((c : Thread nD τ).loc main_arg1)) := by
  simp only [V, List.flatten_cons, List.flatten_nil, List.append_nil, hostOps0, hostOps0_1, hostOps0_2, List.cons_append, List.nil_append]
  after_results_simp
  pointwise
  rw [pos5776, lit6_eq, ofBits_floatWord _ (by omega)]; rfl

/-- The vertical coordinate of grid cell `r` in pixels. -/
theorem V_my (c : Dev nD) (r : Fin 5776) :
    (V m c main_v26 : (⟨S5776x1, .f32⟩ : BufTy).Contents (Elt Ideal)) (ix2 r 0)
      = (((r.val / 76 : ℕ) : ℝ) : EReal) * cell (m ((c : Thread nD τ).loc main_arg1)) := by
  simp only [V, List.flatten_cons, List.flatten_nil, List.append_nil, hostOps0, hostOps0_1, hostOps0_2, List.cons_append, List.nil_append]
  after_results_simp
  pointwise
  rw [pos5776, lit7_eq, ofBits_floatWord _ (by have := r.isLt; omega)]; rfl

end Cert.Decode

end
-- ==== Proof.Scalar.lean ====
/- The arithmetic of one element, over the extended reals. The kernel takes the logistic function through the hyperbolic tangent
   and adds four products of which at most two are not zero; the reference takes it through the exponential and treats
   each group of columns by its own formula. -/
module

public import proofs.«01_k».proof.Proof.Entry
public import proofs.«01_k».proof.Proof.Host

@[expose] public section

noncomputable section

namespace Cert.Decode

open Idealize.ShloMosaic

/-- The word of one half. -/
theorem ofBits_half : Ideal.ofBits .f32 0x3F000000#32 = ((1 / 2 : ℝ) : EReal) := by
  simp [Ideal.ofBits, Ideal.ieee, -EReal.coe_mul]; norm_num

/-- The word of the number of cells along a side. -/
theorem ofBits_76 : Ideal.ofBits .f32 0x42980000#32 = ((76 : ℝ) : EReal) := by
  simp [Ideal.ofBits, Ideal.ieee, -EReal.coe_mul]; norm_num

/-- Half of one plus the hyperbolic tangent of half the argument is the logistic function. -/
theorem tanh_half (r : ℝ) : Real.tanh (r * (1 / 2)) * (1 / 2) + 1 / 2 = (1 + Real.exp (-r))⁻¹ := by
  have h1 : Real.exp (r * (1 / 2)) * Real.exp (-(r * (1 / 2))) = 1 := by rw [← Real.exp_add]; simp
  have h2 : Real.exp (-r) = Real.exp (-(r * (1 / 2))) * Real.exp (-(r * (1 / 2))) := by rw [← Real.exp_add]; congr 1; ring
  have p : 0 < Real.exp (r * (1 / 2)) := Real.exp_pos _
  have q : 0 < Real.exp (-(r * (1 / 2))) := Real.exp_pos _
  rw [Real.tanh_eq_sinh_div_cosh, Real.sinh_eq, Real.cosh_eq, h2]
  generalize Real.exp (r * (1 / 2)) = a at *
  generalize Real.exp (-(r * (1 / 2))) = b at *
  have hab : 0 < a + b := by positivity
  have hb : 0 < 1 + b * b := by positivity
  field_simp
  nlinarith

/-- The kernel's form of the logistic function is the reference's, at the infinities too. -/
theorem sig_eq (y : EReal) : sigm y = Ideal.logistic y := by
  unfold sigm
  rw [ofBits_half]
  induction y using EReal.rec with
  | bot =>
    rw [EReal.bot_mul_coe_of_pos (by norm_num), Ideal.tanh_bot, Ideal.logistic_bot]
    show (-1 : EReal) * _ + _ = _
    rw [show (-1 : EReal) = ((-1 : ℝ) : EReal) by rw [EReal.coe_neg, EReal.coe_one], ← EReal.coe_mul, ← EReal.coe_add]
    norm_num
  | coe r =>
    rw [← EReal.coe_mul, Ideal.tanh_coe, Ideal.logistic_coe, ← EReal.coe_mul, ← EReal.coe_add, tanh_half]
  | top =>
    rw [EReal.top_mul_coe_of_pos (by norm_num), Ideal.tanh_top, Ideal.logistic_top, one_mul, ← EReal.coe_add]
    norm_num

/-- The logistic function is a real number everywhere. -/
theorem logistic_real (y : EReal) : ∃ r : ℝ, Ideal.logistic y = (r : EReal) := by
  induction y using EReal.rec with
  | bot => exact ⟨0, Ideal.logistic_bot⟩
  | coe r => exact ⟨_, Ideal.logistic_coe _⟩
  | top => exact ⟨1, Ideal.logistic_top⟩

/-- The side of a cell is a real number. -/
theorem cell_real (img : (⟨Cert.KernelIdeal.S2, .i32⟩ : BufTy).Contents (Elt Ideal)) : ∃ s : ℝ, cell img = (s : EReal) := by
  unfold cell
  rw [ofBits_76, Ideal.div_coe (by norm_num), ← EReal.coe_mul]
  exact ⟨_, rfl⟩

/-- The kernel's sum at column `ch` with the four multipliers as the host prepares them: `s` the side of a cell, `e₀` and `e₁` the
    anchor's lengths in cells, `u` and `v` the cell's coordinates, `y` the prediction. -/
theorem column (ch : ℕ) (y e₀ e₁ : EReal) (s : ℝ) (u v : ℝ) :
    sigm y * (if ch < 2 then (s : EReal) else if ch < 4 then (0 : EReal) else (1 : EReal))
      + Ideal.exp y * (if ch = 2 then e₀ * (s : EReal) else if ch = 3 then e₁ * (s : EReal) else (0 : EReal))
      + ((u : EReal) * (s : EReal)) * (if ch = 0 then (1 : EReal) else (0 : EReal))
      + ((v : EReal) * (s : EReal)) * (if ch = 1 then (1 : EReal) else (0 : EReal))
    = if ch = 0 then (Ideal.logistic y + (u : EReal)) * (s : EReal)
      else if ch = 1 then (Ideal.logistic y + (v : EReal)) * (s : EReal)
      else if ch = 2 then (Ideal.exp y * e₀) * (s : EReal)
      else if ch = 3 then (Ideal.exp y * e₁) * (s : EReal)
      else Ideal.logistic y := by
  rw [sig_eq]
  obtain ⟨l, hl⟩ := logistic_real y
  rw [hl]
  match ch with
  | 0 =>
    simp only [if_true, Nat.zero_lt_succ, if_false, mul_zero, add_zero, mul_one,
      show ¬ (0 = 1) by decide, show ¬ (0 = 2) by decide, show ¬ (0 = 3) by decide]
    rw [← EReal.coe_mul, ← EReal.coe_mul, ← EReal.coe_add, ← EReal.coe_add, ← EReal.coe_mul, add_mul]
  | 1 =>
    simp only [if_true, if_false, mul_zero, add_zero, mul_one, show (1 < 2) by decide,
      show ¬ (1 = 0) by decide, show ¬ (1 = 2) by decide, show ¬ (1 = 3) by decide]
    rw [← EReal.coe_mul, ← EReal.coe_mul, ← EReal.coe_add, ← EReal.coe_add, ← EReal.coe_mul, add_mul]
  | 2 =>
    simp only [if_true, if_false, mul_zero, add_zero, zero_add, show ¬ (2 < 2) by decide, show (2 < 4) by decide,
      show ¬ (2 = 0) by decide, show ¬ (2 = 1) by decide, mul_assoc]
  | 3 =>
    simp only [if_true, if_false, mul_zero, add_zero, zero_add, show ¬ (3 < 2) by decide, show (3 < 4) by decide,
      show ¬ (3 = 0) by decide, show ¬ (3 = 1) by decide, show ¬ (3 = 2) by decide, mul_assoc]
  | k + 4 =>
    simp only [if_false, mul_zero, add_zero, mul_one, show ¬ (k + 4 < 2) by omega, show ¬ (k + 4 < 4) by omega,
      show ¬ (k + 4 = 0) by omega, show ¬ (k + 4 = 1) by omega, show ¬ (k + 4 = 2) by omega, show ¬ (k + 4 = 3) by omega]

end Cert.Decode

end
-- ==== Proof.Value.lean ====
/- The kernel's result read at an element. The blocks of the seven inputs are placed in their arrays, the run's output array is
   assembled from the blocks written back, and every element is brought to the scalar formula of its column. -/
module

public import proofs.«01_k».proof.Proof.Run
public import proofs.«01_k».proof.Proof.Scalar
public import Idealize.ShloMosaic.Lib.Pipeline.ArrRel
public import Idealize.ShloMosaic.Lib.Pipeline.ValueKit

@[expose] public section

set_option maxRecDepth 16384

noncomputable section

namespace Cert.Decode

open Cert.KernelIdeal Cert.KernelIdeal.Gen
open Idealize.ShloMosaic Idealize.ShloMosaic.TcCoe Idealize.SL.Sem
open Idealize.ShloMosaic.Pipeline (Dat RDat)

/-! ## The blocks -/

/-- The blocks' indices at each grid point: batch entry `t / 3`, anchor `t % 3`. -/
theorem idx0 : ∀ t : Fin cfg0.N, win0_0.index t = ![t.val / 3, t.val % 3, 0, 0, 0] := by decide +kernel
theorem idx1 : ∀ t : Fin cfg0.N, win0_1.index t = ![0, 0] := by decide +kernel
theorem idx2 : ∀ t : Fin cfg0.N, win0_2.index t = ![t.val % 3, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val / 3, 0, 0] := by decide +kernel

/-- The number of grid points. -/
theorem point_lt (t : Fin cfg0.N) : t.val < 48 := lt_of_lt_of_eq t.isLt (show cfg0.N = 48 from N_0)

variable (m : (ℓ : Loc nD τ sig) → Buf (Elt Ideal) ℓ)

/-- The block of predictions at point `t`. -/
theorem blk0_apply (c : Dev nD) (t : Fin cfg0.N) (ch : Fin 85) (h w : Fin 76) :
    (iblk m c 0 t : Vec Ideal S1x1x85x76x76 .f32) (ix5 0 0 ch h w)
      = (V m c main_v0 : (⟨S16x3x85x76x76, .f32⟩ : BufTy).Contents (Elt Ideal))
          (ix5 (⟨t.val / 3, by have := point_lt t; omega⟩ : Fin 16) (⟨t.val % 3, by omega⟩ : Fin 3) ch h w) := by
  blk_ext [iblk, idx0 t]

/-- The other inputs' blocks: whole arrays but for the anchors', of which point `t` sees row `t % 3`. -/
theorem blk1_apply (c : Dev nD) (t : Fin cfg0.N) (ch : Fin 85) :
    (iblk m c 1 t : Vec Ideal S1x85 .f32) (ix2 0 ch) = (V m c main_v8 : (⟨S1x85, .f32⟩ : BufTy).Contents (Elt Ideal)) (ix2 0 ch) := by
  blk_ext [iblk, idx1 t]
theorem blk2_apply (c : Dev nD) (t : Fin cfg0.N) (ch : Fin 85) :
    (iblk m c 2 t : Vec Ideal S1x1x85 .f32) (ix3 0 0 ch)
      = (V m c main_v18 : (⟨S3x1x85, .f32⟩ : BufTy).Contents (Elt Ideal)) (ix3 (⟨t.val % 3, by omega⟩ : Fin 3) 0 ch) := by
  blk_ext [iblk, idx2 t]
theorem blk3_apply (c : Dev nD) (t : Fin cfg0.N) (ch : Fin 85) :
    (iblk m c 3 t : Vec Ideal S1x85 .f32) (ix2 0 ch) = (V m c main_v19 : (⟨S1x85, .f32⟩ : BufTy).Contents (Elt Ideal)) (ix2 0 ch) := by
  blk_ext [iblk, idx3 t]
theorem blk4_apply (c : Dev nD) (t : Fin cfg0.N) (ch : Fin 85) :
    (iblk m c 4 t : Vec Ideal S1x85 .f32) (ix2 0 ch) = (V m c main_v20 : (⟨S1x85, .f32⟩ : BufTy).Contents (Elt Ideal)) (ix2 0 ch) := by
  blk_ext [iblk, idx4 t]
theorem blk5_apply (c : Dev nD) (t : Fin cfg0.N) (r : Fin 5776) :
    (iblk m c 5 t : Vec Ideal S5776x1 .f32) (ix2 r 0) = (V m c main_v23 : (⟨S5776x1, .f32⟩ : BufTy).Contents (Elt Ideal)) (ix2 r 0) := by
  blk_ext [iblk, idx5 t]
theorem blk6_apply (c : Dev nD) (t : Fin cfg0.N) (r : Fin 5776) :
    (iblk m c 6 t : Vec Ideal S5776x1 .f32) (ix2 r 0) = (V m c main_v26 : (⟨S5776x1, .f32⟩ : BufTy).Contents (Elt Ideal)) (ix2 r 0) := by
  blk_ext [iblk, idx6 t]

/-! ## One element -/

/-- The kernel's result: what every element of the array ends at, by columns. Row `n` belongs to anchor `n % 3` and to the grid cell
    in row `n / 228` and column `n / 3 % 76` of the grid. -/
def decoded (X : (⟨S16x255x76x76, .f32⟩ : BufTy).Contents (Elt Ideal)) (img : (⟨S2, .i32⟩ : BufTy).Contents (Elt Ideal)) :
    (⟨S16x17328x85, .f32⟩ : BufTy).Contents (Elt Ideal) := fun i =>
  have hn : (i 1).val < 17328 := (i 1).isLt
  have hc : (i 2).val < 85 := (i 2).isLt
  let a : Fin 3 := ⟨(i 1).val % 3, by omega⟩
  let y : EReal := X (ix4 (i 0 : Fin 16) (⟨a.val * 85 + (i 2).val, by omega⟩ : Fin 255) (⟨(i 1).val / 228, by omega⟩ : Fin 76) (⟨(i 1).val / 3 % 76, by omega⟩ : Fin 76))
  if (i 2).val = 0 then (Ideal.logistic y + ((((i 1).val / 3 % 76 : ℕ) : ℝ) : EReal)) * cell img
  else if (i 2).val = 1 then (Ideal.logistic y + ((((i 1).val / 228 : ℕ) : ℝ) : EReal)) * cell img
  else if (i 2).val = 2 then (Ideal.exp y * anchorCells img a 0) * cell img
  else if (i 2).val = 3 then (Ideal.exp y * anchorCells img a 1) * cell img
  else Ideal.logistic y

/-- Element `(r, ch)` of what the visit of point `t` stores is the element of the result that it lands on. -/
theorem visit_apply (c : Dev nD) (t : Fin cfg0.N) (r : Fin 5776) (ch : Fin 85) :
    (visit m c t : Vec Ideal S1x5776x85 .f32) (ix3 0 r ch)
      = decoded (m ((c : Thread nD τ).loc main_arg0)) (m ((c : Thread nD τ).loc main_arg1))
          (ix3 (⟨t.val / 3, by have := point_lt t; omega⟩ : Fin 16) (⟨3 * r.val + t.val % 3, by omega⟩ : Fin 17328) ch) := by
  unfold visit
  rw [stored_apply, blk0_apply, blk1_apply, blk2_apply, blk3_apply, blk4_apply, blk5_apply, blk6_apply,
    V_pred, V_smul, V_emul, V_ix, V_iy, V_mx, V_my]
  obtain ⟨s, hs⟩ := cell_real (m ((c : Thread nD τ).loc main_arg1))
  rw [hs, column]
  have e1 : (3 * r.val + t.val % 3) % 3 = t.val % 3 := by omega
  have e2 : (3 * r.val + t.val % 3) / 3 = r.val := by omega
  have e3 : (3 * r.val + t.val % 3) / 228 = r.val / 76 := by omega
  simp only [decoded, ix3, hs, e1, e2, e3]

/-- The output block of batch entry `t / 3` is that entry of the result. -/
theorem target_apply (c : Dev nD) (t : Fin cfg0.N) (y : S1x17328x85.Idx) :
    (target m c t : Vec Ideal S1x17328x85 .f32) y
      = decoded (m ((c : Thread nD τ).loc main_arg0)) (m ((c : Thread nD τ).loc main_arg1))
          (ix3 (⟨t.val / 3, by have := point_lt t; omega⟩ : Fin 16) (y 1 : Fin 17328) (y 2 : Fin 85)) := by
  have hy : (y 1).val < 17328 := (y 1).isLt
  refine (visit_apply m c (sibling t ((y 1).val % 3) (Nat.mod_lt _ (by omega))) ⟨(y 1).val / 3, by omega⟩ (y 2 : Fin 85)).trans ?_
  refine congrArg _ ?_
  have ea : (3 * (t.val / 3) + (y 1).val % 3) / 3 = t.val / 3 := by omega
  have eb : 3 * ((y 1).val / 3) + (3 * (t.val / 3) + (y 1).val % 3) % 3 = (y 1).val := by omega
  have h0 : (⟨(sibling t ((y 1).val % 3) (Nat.mod_lt _ (by omega))).val / 3, by have := point_lt (sibling t ((y 1).val % 3) (Nat.mod_lt _ (by omega))); omega⟩ : Fin 16)
      = ⟨t.val / 3, by have := point_lt t; omega⟩ := Fin.ext ea
  have h1 : (⟨3 * ((y 1).val / 3) + (sibling t ((y 1).val % 3) (Nat.mod_lt _ (by omega))).val % 3, by omega⟩ : Fin 17328) = (y 1 : Fin 17328) := Fin.ext eb
  exact congrArg₂ (fun p q => ix3 p q (y 2 : Fin 85)) h0 h1

/-! ## The array after the run -/

/-- The run ends with the result in the output array. -/
theorem out_eq (c : Dev nD) {r : PUnit × MemSt nD τ sig (Elt Ideal)} (h : RDat.FramePost cfg0 (rdat m) (V m) r) :
    r.2.mem ((c : Thread nD τ).loc main_v27)
      = decoded (m ((c : Thread nD τ).loc main_arg0)) (m ((c : Thread nD τ).loc main_arg1)) := by
  obtain ⟨after, hL, hA⟩ := h.exists_exact c
  refine (hA 7).trans ?_
  refine ((rdat m c).withAfter after).arrAt_eq_of_covers 7 _ (by decide +kernel) fun t hf y => ?_
  have hX : after 7 t = target m c t := Filled.eq m (leaves_filled m c t (after 7 t) (hL 7 t hf)) ((flush0_7 t).mp hf)
  refine (congrArg (cast _) (congrFun hX ((cfg0.win 7).xinj (cfg0.grid.coords t) y))).trans ?_
  refine (target_apply m c t y).trans (congrArg _ ?_)
  blk_ext [idx7 t]

/-- The kernel's run, with its result, arguments and counters. -/
theorem run_value (ρ : Dev nD → PrngReg) : θ_run defs (onTc (τ := τ) (main (F := Ideal))) ⟨m, fun _ => 0, ρ⟩ (fun r => ∀ c : Dev nD,
      r.2.mem ((c.tc : Thread nD τ).loc main_v27)
        = decoded (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨out_eq m c h.1,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c)⟩) (run_main m ρ)

end Cert.Decode

end
-- ==== Proof.RefEntry.lean ====
/- The reference's result read at an element. Its long composed term is cut into named arrays — the predictions with the columns
   last, the grid coordinates, the anchors in cells, the boxes, the two kinds of scores — and each is read at an index. -/
module

public import proofs.«01_k».proof.Proof.Gen.ReferenceIdeal.Run
public import Idealize.ShloMosaic.Lib.Pointwise
public import Idealize.ShloMosaic.Lib.Tactic.CleanTypes
public import Idealize.ShloMosaic.Lib.Routing.Ops

@[expose] public section

set_option maxRecDepth 16384

noncomputable section

namespace Cert.Decode.Ref

open Cert.ReferenceIdeal Cert.ReferenceIdeal.Gen Idealize.ShloMosaic Idealize.ShloMosaic.TcCoe Idealize.SL.Sem

/-- An array of floats, as extended reals. -/
abbrev Arr (s : Shape) : Type := FVec Ideal s .f32

/-- The side of a grid cell in pixels. -/
def side (img : IVec S2 32) : Arr S_ :=
  Host.divf (sitofp .f32 (shapeCast _ (extractStridedSlice S1 ![1] img slices_S2_S1_1) shapeCasts_S1_S_)) (constant S_ .f32 0x42980000#32)

/-- The side of a cell is the second image size over 76. -/
theorem side_apply (img : IVec S2 32) :
    side img ix0 = Ideal.div (((img (ix1 1)).toInt : ℝ) : EReal) (Ideal.ofBits .f32 0x42980000#32) := by
  pointwise [side]
  rfl

/-- The predictions, columns last. -/
def preds (X : Arr S16x255x76x76) : Arr S16x3x76x76x85 :=
  transpose S16x3x76x76x85 [0, 1, 3, 4, 2] (shapeCast _ X shapeCasts_S16x255x76x76_S16x3x85x76x76) transposes_S16x3x85x76x76_S16x3x76x76x85_0_1_3_4_2

/-- Column `ch` of anchor `a` is channel `85 a + ch` of the argument. -/
theorem preds_apply (X : Arr S16x255x76x76) (b : Fin 16) (a : Fin 3) (h w : Fin 76) (ch : Fin 85) :
    preds X (ix5 b a h w ch) = X (ix4 b ⟨a.val * 85 + ch.val, by omega⟩ h w) := by
  pointwise [preds]

/-- The row numbers of the three anchors used. -/
def rowsUsed : IVec S3x1 32 :=
  broadcastInDim S3x1 ![0] bcast_S3_S3x1_0 (select (cmpi .slt ((fun i => lit1 (S3.rowMajor i))) (broadcastInDim S3 ![] bcast_S_S3 (constantI S_ 32 0#32))) (addi ((fun i => lit1 (S3.rowMajor i))) (broadcastInDim S3 ![] bcast_S_S3 (constantI S_ 32 9#32))) ((fun i => lit1 (S3.rowMajor i))))

/-- The three anchors used are the first three. -/
theorem rowsUsed_apply (a : Fin 3) : rowsUsed (ix2 a 0) = BitVec.ofNat 32 a.val := by
  pointwise [rowsUsed]
  rw [show lit1 (S3.rowMajor (ix1 a)) = BitVec.ofNat 32 a.val by
    rw [show S3.rowMajor (ix1 a) = a from Fin.ext (Shape.rowMajor_val_one _)]; revert a; decide]
  revert a; decide

/-- The anchors in grid cells. -/
def anchors (img : IVec S2 32) : Arr S3x2 :=
  Host.gather gather_S9x2_S3x1_S3x2_1_0_n_n_0_1_12 (Host.divf ((fun i => FloatOps.ofBits .f32 (lit0 (S9x2.rowMajor i)))) (broadcastInDim S9x2 ![] bcast_S_S9x2 (side img))) rowsUsed

/-- The grid coordinates: across, down. -/
def mesh : Arr S76x76x2 :=
  sitofp .f32 (concatenate S76x76x2 2 [⟨S76x76x1, (broadcastInDim S76x76x1 ![0, 1] bcast_S76x76_S76x76x1_0_1 (shapeCast _ (broadcastInDim S76x1x1x76 ![0, 1, 2, 3] bcast_S1x1x1x76_S76x1x1x76_0_1_2_3 (shapeCast _ (broadcastInDim S1x76 ![1] bcast_S76_S1x76_1 (iotaInDim S76 32 0)) shapeCasts_S1x76_S1x1x1x76)) shapeCasts_S76x1x1x76_S76x76))⟩, ⟨S76x76x1, (broadcastInDim S76x76x1 ![0, 1] bcast_S76x76_S76x76x1_0_1 (transpose S76x76 [1, 0] (shapeCast _ (broadcastInDim S76x1x1x76 ![0, 1, 2, 3] bcast_S1x1x1x76_S76x1x1x76_0_1_2_3 (shapeCast _ (broadcastInDim S1x76 ![1] bcast_S76_S1x76_1 (iotaInDim S76 32 0)) shapeCasts_S1x76_S1x1x1x76)) shapeCasts_S76x1x1x76_S76x76) transposes_S76x76_S76x76_1_0))⟩] concatenates_S76x76x1_S76x76x1_S76x76x2_d2)

/-- A grid coordinate read as a 32-bit word is itself. -/
theorem toInt_coord (w : Fin 76) : ((BitVec.ofNat 32 w.val).toInt : ℝ) = (w.val : ℝ) := by
  have h : (BitVec.ofNat 32 w.val).toInt = (w.val : ℤ) := by revert w; decide
  rw [h]; norm_cast

/-- The grid coordinates at a cell: its column, then its row. -/
theorem mesh_apply (h w : Fin 76) (k : Fin 2) :
    mesh (ix3 h w k) = if k.val = 0 then ((w.val : ℝ) : EReal) else ((h.val : ℝ) : EReal) := by
  pointwise [mesh]
  show (((if h' : k.val < 1 then BitVec.ofNat 32 w.val else BitVec.ofNat 32 h.val).toInt : ℝ) : EReal) = _
  by_cases h0 : k.val = 0
  · rw [if_pos h0, dif_pos (by omega), toInt_coord]
  · rw [if_neg h0, dif_neg (by omega), toInt_coord]

/-- The logistic function as the reference computes it, elementwise. -/
def logistic (y : EReal) : EReal := Ideal.div 1 (1 + Ideal.exp (-y))

/-- An anchor's length in cells is its length in pixels over the side of a cell. -/
theorem anchors_apply (img : IVec S2 32) (a : Fin 3) (k : Fin 2) :
    anchors img (ix2 a k) = Ideal.div (Ideal.ofBits .f32 (lit0 ⟨a.val * 2 + k.val, by omega⟩)) (side img ix0) := by
  unfold anchors
  refine (Routing.gather_row (nb := 9) (B := 2) (n := 3) gather_S9x2_S3x1_S3x2_1_0_n_n_0_1_12 rfl rfl rfl rfl rfl _ rowsUsed a k
    ⟨a.val, by omega⟩ (rowsUsed_apply a) (by norm_num)).trans ?_
  show Ideal.div (Ideal.ofBits .f32 (lit0 (S9x2.rowMajor (ix2 (⟨a.val, by omega⟩ : Fin 9) k)))) (broadcastInDim S9x2 ![] bcast_S_S9x2 (side img) (ix2 (⟨a.val, by omega⟩ : Fin 9) k)) = _
  rw [show lit0 (S9x2.rowMajor (ix2 (⟨a.val, by omega⟩ : Fin 9) k)) = lit0 ⟨a.val * 2 + k.val, by omega⟩ from
    congrArg lit0 (Fin.ext (Shape.rowMajor_val_two _))]
  pointwise

/-- The boxes' centres in cells: the logistic function of the first two columns plus the grid coordinates. -/
def centres (X : Arr S16x255x76x76) : Arr S16x3x76x76x2 :=
  addf (Host.divf (broadcastInDim S16x3x76x76x2 ![] bcast_S_S16x3x76x76x2 (constant S_ .f32 0x3F800000#32)) (addf (broadcastInDim S16x3x76x76x2 ![] bcast_S_S16x3x76x76x2 (constant S_ .f32 0x3F800000#32)) (Host.exp (Host.negf (extractStridedSlice S16x3x76x76x2 ![0, 0, 0, 0, 0] (preds X) slices_S16x3x76x76x85_S16x3x76x76x2_0_0_0_0_0))))) (broadcastInDim S16x3x76x76x2 ![0, 1, 2, 3, 4] bcast_S1x1x76x76x2_S16x3x76x76x2_0_1_2_3_4 (broadcastInDim S1x1x76x76x2 ![2, 3, 4] bcast_S76x76x2_S1x1x76x76x2_2_3_4 mesh))

/-- A box's centre in cells at an element. -/
theorem centres_apply (X : Arr S16x255x76x76) (b : Fin 16) (a : Fin 3) (h w : Fin 76) (k : Fin 2) :
    centres X (ix5 b a h w k) = logistic (preds X (ix5 b a h w ⟨k.val, by omega⟩)) + mesh (ix3 h w k) := by
  pointwise [centres, logistic]

/-- The boxes' lengths in cells: the exponential of the next two columns times the anchors. -/
def lengths (X : Arr S16x255x76x76) (img : IVec S2 32) : Arr S16x3x76x76x2 :=
  mulf (Host.exp (extractStridedSlice S16x3x76x76x2 ![0, 0, 0, 0, 2] (preds X) slices_S16x3x76x76x85_S16x3x76x76x2_0_0_0_0_2)) (broadcastInDim S16x3x76x76x2 ![0, 1, 2, 3, 4] bcast_S1x3x76x76x2_S16x3x76x76x2_0_1_2_3_4 (shapeCast _ (broadcastInDim S1x1x1x3x76x1x76x1x1x2 ![0, 1, 2, 3, 4, 5, 6, 7, 8, 9] bcast_S1x1x1x3x1x1x1x1x1x2_S1x1x1x3x76x1x76x1x1x2_0_1_2_3_4_5_6_7_8_9 (shapeCast _ (shapeCast _ (anchors img) shapeCasts_S3x2_S1x3x1x1x2) shapeCasts_S1x3x1x1x2_S1x1x1x3x1x1x1x1x1x2)) shapeCasts_S1x1x1x3x76x1x76x1x1x2_S1x3x76x76x2))

/-- An index of the array of anchors repeated over the grid cells, before its axes are merged. -/
def spread (a : Fin 3) (h w : Fin 76) (k : Fin 2) : S1x1x1x3x76x1x76x1x1x2.Idx := fun d => match d with
  | ⟨0, _⟩ => (0 : Fin 1)
  | ⟨1, _⟩ => (0 : Fin 1)
  | ⟨2, _⟩ => (0 : Fin 1)
  | ⟨3, _⟩ => a
  | ⟨4, _⟩ => h
  | ⟨5, _⟩ => (0 : Fin 1)
  | ⟨6, _⟩ => w
  | ⟨7, _⟩ => (0 : Fin 1)
  | ⟨8, _⟩ => (0 : Fin 1)
  | ⟨9, _⟩ => k

/-- An index of the array of anchors with an axis of length one for every axis to be repeated. -/
def thin (a : Fin 3) (k : Fin 2) : S1x1x1x3x1x1x1x1x1x2.Idx := fun d => match d with
  | ⟨0, _⟩ => (0 : Fin 1)
  | ⟨1, _⟩ => (0 : Fin 1)
  | ⟨2, _⟩ => (0 : Fin 1)
  | ⟨3, _⟩ => a
  | ⟨4, _⟩ => (0 : Fin 1)
  | ⟨5, _⟩ => (0 : Fin 1)
  | ⟨6, _⟩ => (0 : Fin 1)
  | ⟨7, _⟩ => (0 : Fin 1)
  | ⟨8, _⟩ => (0 : Fin 1)
  | ⟨9, _⟩ => k

/-- The position of an index of rank ten, one axis at a time. -/
theorem pos_ten {d : Fin 10 → ℕ} (i : (⟨10, d⟩ : Shape).Idx) :
    ((⟨10, d⟩ : Shape).rowMajor i).val
      = (((((((((i 0).val * d 1 + (i 1).val) * d 2 + (i 2).val) * d 3 + (i 3).val) * d 4 + (i 4).val) * d 5 + (i 5).val) * d 6
        + (i 6).val) * d 7 + (i 7).val) * d 8 + (i 8).val) * d 9 + (i 9).val := by
  show (Shape.rowMajorPi d i).val = _
  simp [Shape.rowMajorPi_succ_val, Fin.prod_univ_succ, Shape.rowMajorPi_zero, Nat.add_mul, Nat.mul_assoc, Nat.add_assoc]

/-- The anchors repeated over the cells, before the axes are merged: each cell sees its anchor. -/
theorem spread_apply (x : Arr S3x2) (a : Fin 3) (h w : Fin 76) (k : Fin 2) :
    broadcastInDim S1x1x1x3x76x1x76x1x1x2 ![0, 1, 2, 3, 4, 5, 6, 7, 8, 9] bcast_S1x1x1x3x1x1x1x1x1x2_S1x1x1x3x76x1x76x1x1x2_0_1_2_3_4_5_6_7_8_9
      (shapeCast S1x1x1x3x1x1x1x1x1x2 (shapeCast S1x3x1x1x2 x shapeCasts_S3x2_S1x3x1x1x2) shapeCasts_S1x3x1x1x2_S1x1x1x3x1x1x1x1x1x2) (spread a h w k)
      = x (ix2 a k) := by
  have e : broadcastInDim S1x1x1x3x76x1x76x1x1x2 ![0, 1, 2, 3, 4, 5, 6, 7, 8, 9] bcast_S1x1x1x3x1x1x1x1x1x2_S1x1x1x3x76x1x76x1x1x2_0_1_2_3_4_5_6_7_8_9
      (shapeCast S1x1x1x3x1x1x1x1x1x2 (shapeCast S1x3x1x1x2 x shapeCasts_S3x2_S1x3x1x1x2) shapeCasts_S1x3x1x1x2_S1x1x1x3x1x1x1x1x1x2) (spread a h w k)
      = shapeCast S1x1x1x3x1x1x1x1x1x2 (shapeCast S1x3x1x1x2 x shapeCasts_S3x2_S1x3x1x1x2) shapeCasts_S1x3x1x1x2_S1x1x1x3x1x1x1x1x1x2 (thin a k) := by
    unfold broadcastInDim
    refine congrArg _ (funext fun d => ?_)
    match d with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
  rw [e]
  show x (Shape.reshapeEquiv _ (Shape.reshapeEquiv _ (thin a k))) = _
  rw [Shape.reshapeEquiv_reshapeEquiv]
  refine congrArg x (Shape.reshapeEquiv_eq_of_rowMajor _ ?_)
  refine (Shape.rowMajor_val_two _).trans ((?_ : a.val * 2 + k.val = _).trans (pos_ten (thin a k)).symm)
  show a.val * 2 + k.val = ((((((((0 * 1 + 0) * 1 + 0) * 3 + a.val) * 1 + 0) * 1 + 0) * 1 + 0) * 1 + 0) * 1 + 0) * 2 + k.val
  omega

/-- Merging the axes takes cell `(h, w)` of anchor `a` from where the repetition put it. -/
theorem merged_index (a : Fin 3) (h w : Fin 76) (k : Fin 2) :
    Shape.reshapeEquiv shapeCasts_S1x1x1x3x76x1x76x1x1x2_S1x3x76x76x2 (ix5 (0 : Fin 1) a h w k) = spread a h w k := by
  refine Shape.reshapeEquiv_eq_of_rowMajor _ ((pos_ten (spread a h w k)).trans (Eq.trans ?_ (Shape.rowMajor_val_five _).symm))
  show ((((((((0 * 1 + 0) * 1 + 0) * 3 + a.val) * 76 + h.val) * 1 + 0) * 76 + w.val) * 1 + 0) * 1 + 0) * 2 + k.val
    = (((0 * 3 + a.val) * 76 + h.val) * 76 + w.val) * 2 + k.val
  omega

/-- A box's lengths in cells at an element. -/
theorem lengths_apply (X : Arr S16x255x76x76) (img : IVec S2 32) (b : Fin 16) (a : Fin 3) (h w : Fin 76) (k : Fin 2) :
    lengths X img (ix5 b a h w k) = Ideal.exp (preds X (ix5 b a h w ⟨2 + k.val, by omega⟩)) * anchors img (ix2 a k) := by
  have e : lengths X img (ix5 b a h w k) = Ideal.exp (preds X (ix5 b a h w ⟨2 + k.val, by omega⟩))
      * broadcastInDim S1x1x1x3x76x1x76x1x1x2 ![0, 1, 2, 3, 4, 5, 6, 7, 8, 9] bcast_S1x1x1x3x1x1x1x1x1x2_S1x1x1x3x76x1x76x1x1x2_0_1_2_3_4_5_6_7_8_9
        (shapeCast S1x1x1x3x1x1x1x1x1x2 (shapeCast S1x3x1x1x2 (anchors img) shapeCasts_S3x2_S1x3x1x1x2) shapeCasts_S1x3x1x1x2_S1x1x1x3x1x1x1x1x1x2)
        (Shape.reshapeEquiv shapeCasts_S1x1x1x3x76x1x76x1x1x2_S1x3x76x76x2 (ix5 (0 : Fin 1) a h w k)) := by
    unfold lengths
    generalize broadcastInDim S1x1x1x3x76x1x76x1x1x2 ![0, 1, 2, 3, 4, 5, 6, 7, 8, 9] bcast_S1x1x1x3x1x1x1x1x1x2_S1x1x1x3x76x1x76x1x1x2_0_1_2_3_4_5_6_7_8_9
        (shapeCast S1x1x1x3x1x1x1x1x1x2 (shapeCast S1x3x1x1x2 (anchors img) shapeCasts_S3x2_S1x3x1x1x2) shapeCasts_S1x3x1x1x2_S1x1x1x3x1x1x1x1x1x2) = B
    pointwise
  rw [e, merged_index, spread_apply]

/-- The boxes in pixels. -/
def boxes (X : Arr S16x255x76x76) (img : IVec S2 32) : Arr S16x3x76x76x4 :=
  mulf (concatenate S16x3x76x76x4 4 [⟨S16x3x76x76x2, centres X⟩, ⟨S16x3x76x76x2, lengths X img⟩] concatenates_S16x3x76x76x2_S16x3x76x76x2_S16x3x76x76x4_d4) (broadcastInDim S16x3x76x76x4 ![] bcast_S_S16x3x76x76x4 (side img))

/-- A box in pixels at an element: centre, then lengths, each times the side of a cell. -/
theorem boxes_apply (X : Arr S16x255x76x76) (img : IVec S2 32) (b : Fin 16) (a : Fin 3) (h w : Fin 76) (k : Fin 4) :
    boxes X img (ix5 b a h w k) = (if hk : k.val < 2 then centres X (ix5 b a h w ⟨k.val, hk⟩)
      else lengths X img (ix5 b a h w ⟨k.val - 2, by omega⟩)) * side img ix0 := by
  pointwise [boxes]

/-- The objectness score. -/
def score (X : Arr S16x255x76x76) : Arr S16x3x76x76x1 :=
  broadcastInDim S16x3x76x76x1 ![0, 1, 2, 3] bcast_S16x3x76x76_S16x3x76x76x1_0_1_2_3 (Host.divf (broadcastInDim S16x3x76x76 ![] bcast_S_S16x3x76x76 (constant S_ .f32 0x3F800000#32)) (addf (broadcastInDim S16x3x76x76 ![] bcast_S_S16x3x76x76 (constant S_ .f32 0x3F800000#32)) (Host.exp (Host.negf (shapeCast _ (extractStridedSlice S16x3x76x76x1 ![0, 0, 0, 0, 4] (preds X) slices_S16x3x76x76x85_S16x3x76x76x1_0_0_0_0_4) shapeCasts_S16x3x76x76x1_S16x3x76x76)))))

/-- The objectness score at an element. -/
theorem score_apply (X : Arr S16x255x76x76) (b : Fin 16) (a : Fin 3) (h w : Fin 76) :
    score X (ix5 b a h w 0) = logistic (preds X (ix5 b a h w 4)) := by
  pointwise [score, logistic]

/-- The class scores. -/
def classes (X : Arr S16x255x76x76) : Arr S16x3x76x76x80 :=
  Host.divf (broadcastInDim S16x3x76x76x80 ![] bcast_S_S16x3x76x76x80 (constant S_ .f32 0x3F800000#32)) (addf (broadcastInDim S16x3x76x76x80 ![] bcast_S_S16x3x76x76x80 (constant S_ .f32 0x3F800000#32)) (Host.exp (Host.negf (extractStridedSlice S16x3x76x76x80 ![0, 0, 0, 0, 5] (preds X) slices_S16x3x76x76x85_S16x3x76x76x80_0_0_0_0_5))))

/-- A class score at an element. -/
theorem classes_apply (X : Arr S16x255x76x76) (b : Fin 16) (a : Fin 3) (h w : Fin 76) (k : Fin 80) :
    classes X (ix5 b a h w k) = logistic (preds X (ix5 b a h w ⟨5 + k.val, by omega⟩)) := by
  pointwise [classes, logistic]

/-- The result: boxes and scores side by side, the anchors of a cell in adjacent rows. -/
def out (X : Arr S16x255x76x76) (img : IVec S2 32) : Arr S16x17328x85 :=
  shapeCast _ (transpose S16x76x76x3x85 [0, 2, 3, 1, 4] (concatenate S16x3x76x76x85 4 [⟨S16x3x76x76x4, boxes X img⟩, ⟨S16x3x76x76x1, score X⟩, ⟨S16x3x76x76x80, classes X⟩] concatenates_S16x3x76x76x4_S16x3x76x76x1_S16x3x76x76x80_S16x3x76x76x85_d4) transposes_S16x3x76x76x85_S16x76x76x3x85_0_2_3_1_4) shapeCasts_S16x76x76x3x85_S16x17328x85

/-- An element of the result before the anchors' columns are told apart. -/
theorem out_apply (X : Arr S16x255x76x76) (img : IVec S2 32) (b : Fin 16) (n : Fin 17328) (ch : Fin 85) :
    out X img (ix3 b n ch) = if h4 : ch.val < 4 then boxes X img (ix5 b ⟨n.val % 3, by omega⟩ ⟨n.val / 228, by omega⟩ ⟨n.val / 3 % 76, by omega⟩ ⟨ch.val, h4⟩)
      else logistic (preds X (ix5 b ⟨n.val % 3, by omega⟩ ⟨n.val / 228, by omega⟩ ⟨n.val / 3 % 76, by omega⟩ ch)) := by
  pointwise [out]
  by_cases h4 : ch.val < 4
  · rw [dif_pos h4, dif_pos h4]
  · rw [dif_neg h4, dif_neg h4]
    by_cases h5 : ch.val - 4 < 1
    · rw [dif_pos h5]
      have e : (⟨ch.val - 4, h5⟩ : Fin 1) = 0 := Subsingleton.elim _ _
      have e' : ch = (4 : Fin 85) := Fin.ext (by show ch.val = 4; omega)
      rw [e, score_apply]
      exact congrArg (fun i => logistic (preds X (ix5 b _ _ _ i))) e'.symm
    · rw [dif_neg h5, classes_apply]
      have e' : (⟨5 + (ch.val - 4 - 1), by omega⟩ : Fin 85) = ch := Fin.ext (by show 5 + (ch.val - 4 - 1) = ch.val; omega)
      rw [e']

set_option maxHeartbeats 1600000 in
/-- The reference's run leaves the named result. -/
theorem res_eq (m : (ℓ : Loc nD τ sig) → Buf (Elt Ideal) ℓ) (c : Dev nD) :
    Value.res_main_v69 m c = out (m ((c.tc : Thread nD τ).loc main_arg0)) (m ((c.tc : Thread nD τ).loc main_arg1)) := rfl

end Cert.Decode.Ref

end
-- ==== Proof.Tie.lean ====
/- The kernel's result is the reference's: both read at an element, column by column. -/
module

public import proofs.«01_k».proof.Proof.Value
public import proofs.«01_k».proof.Proof.RefEntry

@[expose] public section

set_option maxRecDepth 16384

noncomputable section

namespace Cert.Decode

open Idealize.ShloMosaic

/-- The two programs' tables hold the same anchors, at the three anchors used. -/
theorem same_anchors : ∀ (a : Fin 3) (k : Fin 2),
    Cert.ReferenceIdeal.lit0 ⟨a.val * 2 + k.val, by omega⟩ = Cert.KernelIdeal.lit0 ⟨a.val * 2 + k.val, by omega⟩ := by decide

/-- The two programs compute the same side of a cell. -/
theorem same_side (img : IVec Cert.ReferenceIdeal.S2 32) : Ref.side img ix0 = cell img := Ref.side_apply img

/-- The two programs compute the same anchor lengths in cells. -/
theorem same_lengths (img : IVec Cert.ReferenceIdeal.S2 32) (a : Fin 3) (k : Fin 2) :
    Ref.anchors img (ix2 a k) = anchorCells img a k := by
  rw [Ref.anchors_apply, same_side, same_anchors]
  rfl

/-- The reference's two columns of lengths. -/
theorem reference_lengths (X : Ref.Arr Cert.ReferenceIdeal.S16x255x76x76) (img : IVec Cert.ReferenceIdeal.S2 32)
    (b : Fin 16) (n : Fin 17328) (ch : Fin 85) (k : Fin 2) (h : ch.val = 2 + k.val) :
    Ref.out X img (ix3 b n ch)
      = (Ideal.exp (X (ix4 b (⟨n.val % 3 * 85 + ch.val, by omega⟩ : Fin 255) (⟨n.val / 228, by omega⟩ : Fin 76) (⟨n.val / 3 % 76, by omega⟩ : Fin 76)))
          * anchorCells img ⟨n.val % 3, by omega⟩ k) * cell img := by
  rw [Ref.out_apply, dif_pos (by omega), Ref.boxes_apply, dif_neg (show ¬ (⟨ch.val, by omega⟩ : Fin 4).val < 2 by show ¬ ch.val < 2; omega)]
  have hk : ∀ p, (⟨ch.val - 2, p⟩ : Fin 2) = k := fun p => Fin.ext (by show ch.val - 2 = k.val; omega)
  have hc : ∀ p, (⟨2 + k.val, p⟩ : Fin 85) = ch := fun p => Fin.ext h.symm
  rw [hk, Ref.lengths_apply, hc, Ref.preds_apply, same_side, same_lengths]

/-- Element `(b, n, ch)` of the reference's result. -/
theorem reference_apply (X : Ref.Arr Cert.ReferenceIdeal.S16x255x76x76) (img : IVec Cert.ReferenceIdeal.S2 32)
    (b : Fin 16) (n : Fin 17328) (ch : Fin 85) :
    Ref.out X img (ix3 b n ch) = decoded X img (ix3 b n ch) := by
  have hn := n.isLt
  by_cases h0 : ch.val = 0
  · rw [Ref.out_apply, dif_pos (by omega), Ref.boxes_apply, dif_pos (show (⟨ch.val, by omega⟩ : Fin 4).val < 2 by show ch.val < 2; omega), Ref.centres_apply,
      Ref.mesh_apply, Ref.preds_apply, same_side, if_pos (show (⟨ch.val, _⟩ : Fin 2).val = 0 from h0)]
    exact (if_pos h0).symm
  by_cases h1 : ch.val = 1
  · rw [Ref.out_apply, dif_pos (by omega), Ref.boxes_apply, dif_pos (show (⟨ch.val, by omega⟩ : Fin 4).val < 2 by show ch.val < 2; omega), Ref.centres_apply,
      Ref.mesh_apply, Ref.preds_apply, same_side, if_neg (show ¬ (⟨ch.val, _⟩ : Fin 2).val = 0 from h0)]
    exact ((if_neg h0).trans (if_pos h1)).symm
  by_cases h2 : ch.val = 2
  · exact (reference_lengths X img b n ch 0 h2).trans ((if_neg h0).trans ((if_neg h1).trans (if_pos h2))).symm
  by_cases h3 : ch.val = 3
  · exact (reference_lengths X img b n ch 1 h3).trans ((if_neg h0).trans ((if_neg h1).trans ((if_neg h2).trans (if_pos h3)))).symm
  · rw [Ref.out_apply, dif_neg (by omega), Ref.preds_apply]
    exact ((if_neg h0).trans ((if_neg h1).trans ((if_neg h2).trans (if_neg h3)))).symm

/-- The reference's result is the kernel's. -/
theorem reference_eq (X : Ref.Arr Cert.ReferenceIdeal.S16x255x76x76) (img : IVec Cert.ReferenceIdeal.S2 32) :
    Ref.out X img = decoded X img := funext fun i =>
  (congrArg (Ref.out X img) (eq_ix3 i)).trans ((reference_apply X img (i 0) (i 1) (i 2)).trans (congrArg (decoded X img) (eq_ix3 i)).symm)

end Cert.Decode

end
-- ==== Proof.lean ====
/- The certificate: the strided decode kernel and its idealization run and end quiescent, so does the reference, and at the ideal
   values the kernel's result is the reference's. The run is proved once, for any values, in Proof/Run.lean; the value in
   Proof/Value.lean and Proof/Tie.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Tie
public import Idealize.ShloMosaic.Adequacy
public import Idealize.ShloMosaic.Init

@[expose] public section

noncomputable section

namespace Cert.Proof

open Idealize.ShloMosaic Idealize.SL.Sem Cert.Kernel

set_option maxRecDepth 16384 in
/-- The kernel at the machine's own values: it runs, the arguments end unchanged and every semaphore counter ends at zero. The program
    has the text of its idealization, so the run proved for any values is taken at these. -/
theorem frame_kernel : Cert.quiescent_Kernel := fun m ρ _ => by
  rw [Cert.Decode.defs_eq, Cert.Decode.main_eq]
  exact Cert.Decode.quiescent (F := Bits) m ρ

/-- The idealized kernel: the same run at the ideal values. -/
theorem frame_ideal : Cert.quiescent_KernelIdeal := fun m ρ _ => Cert.Decode.quiescent (F := Ideal) m ρ

/-- The reference: it runs and leaves its arguments; it declares no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- At the ideal values the kernel's result is the reference's, element by element, for all arguments. -/
theorem algebraic : Cert.algebraic_KernelIdeal_ReferenceIdeal := by
  intro m g m' g' _ hagree
  refine ⟨fun c => Cert.Decode.decoded (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.Decode.run_value m g, ?_⟩
  refine (θ_run Cert.ReferenceIdeal.defs _ _).mono (fun r h c => ⟨(h c).1.trans ?_, (h c).2⟩) (Cert.ReferenceIdeal.Value.run (F := Ideal) m' g')
  refine (Cert.Decode.Ref.res_eq m' c).trans ((Cert.Decode.reference_eq _ _).trans ?_)
  exact congrArg₂ Cert.Decode.decoded (hagree c).1 (hagree c).2

/-- Every claim. -/
theorem claim : Cert.Claim := ⟨Cert.Kernel.Gen.facts, Cert.KernelIdeal.Gen.facts, Cert.ReferenceIdeal.Gen.facts,
  frame_kernel, frame_ideal, frame_reference, trivial, algebraic⟩

end Cert.Proof

end
